-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x7168 : Shape := ⟨3, ![6, 256, 7168]⟩
abbrev S896x4608 : Shape := ⟨2, ![896, 4608]⟩
abbrev S224x4608 : Shape := ⟨2, ![224, 4608]⟩
abbrev S224x576 : Shape := ⟨2, ![224, 576]⟩
abbrev S224x64 : Shape := ⟨2, ![224, 64]⟩
abbrev S64x4608 : Shape := ⟨2, ![64, 4608]⟩
abbrev S8 : Shape := ⟨1, ![8]⟩
abbrev S_ : Shape := ⟨0, ![]⟩
abbrev S224x576x1 : Shape := ⟨3, ![224, 576, 1]⟩
abbrev S1x1x8 : Shape := ⟨3, ![1, 1, 8]⟩
abbrev S224x576x8 : Shape := ⟨3, ![224, 576, 8]⟩
abbrev S1536x7168 : Shape := ⟨2, ![1536, 7168]⟩
abbrev S1536x4608 : Shape := ⟨2, ![1536, 4608]⟩
abbrev S896x256 : Shape := ⟨2, ![896, 256]⟩
abbrev S224x256 : Shape := ⟨2, ![224, 256]⟩
abbrev S64x256 : Shape := ⟨2, ![64, 256]⟩
abbrev S1536x256 : Shape := ⟨2, ![1536, 256]⟩
abbrev S1536x64 : Shape := ⟨2, ![1536, 64]⟩
abbrev S7168x256 : Shape := ⟨2, ![7168, 256]⟩
abbrev S7168x224 : Shape := ⟨2, ![7168, 224]⟩
abbrev S1536x224 : Shape := ⟨2, ![1536, 224]⟩
abbrev S8x256 : Shape := ⟨2, ![8, 256]⟩
abbrev S8x8x256 : Shape := ⟨3, ![8, 8, 256]⟩
abbrev S8x1x256 : Shape := ⟨3, ![8, 1, 256]⟩
abbrev S2x32x256 : Shape := ⟨3, ![2, 32, 256]⟩
abbrev S2x256 : Shape := ⟨2, ![2, 256]⟩
abbrev S2x1x256 : Shape := ⟨3, ![2, 1, 256]⟩
abbrev S6x256x4608 : Shape := ⟨3, ![6, 256, 4608]⟩

abbrev nBuf : Space → Nat
  | .hbm => 22
  | .vmem => 14
  | .smem => 0
  | _ => 0

abbrev bufTy : (tb : Table) → Fin (tcTables nBuf tb) → BufTy
  | .hbm, ⟨0, _⟩ => ⟨S6x256x7168, .bf16⟩
  | .hbm, ⟨1, _⟩ => ⟨S896x4608, .i32⟩
  | .hbm, ⟨2, _⟩ => ⟨S224x4608, .bf16⟩
  | .hbm, ⟨3, _⟩ => ⟨S224x576, .i32⟩
  | .hbm, ⟨4, _⟩ => ⟨S224x64, .bf16⟩
  | .hbm, ⟨5, _⟩ => ⟨S64x4608, .bf16⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S224x576x1, .i32⟩
  | .hbm, ⟨11, _⟩ => ⟨S1x1x8, .i32⟩
  | .hbm, ⟨12, _⟩ => ⟨S224x576x8, .i32⟩
  | .hbm, ⟨13, _⟩ => ⟨S224x576x8, .i32⟩
  | .hbm, ⟨14, _⟩ => ⟨S224x576x8, .i32⟩
  | .hbm, ⟨15, _⟩ => ⟨S_, .i32⟩
  | .hbm, ⟨16, _⟩ => ⟨S224x576x8, .i32⟩
  | .hbm, ⟨17, _⟩ => ⟨S224x576x8, .i32⟩
  | .hbm, ⟨18, _⟩ => ⟨S224x4608, .i32⟩
  | .hbm, ⟨19, _⟩ => ⟨S1536x7168, .bf16⟩
  | .hbm, ⟨20, _⟩ => ⟨S1536x4608, .bf16⟩
  | .hbm, ⟨21, _⟩ => ⟨S6x256x4608, .bf16⟩
  | .local _ .vmem, ⟨0, _⟩ => ⟨S1536x7168, .bf16⟩
  | .local _ .vmem, ⟨1, _⟩ => ⟨S896x256, .i32⟩
  | .local _ .vmem, ⟨2, _⟩ => ⟨S896x256, .i32⟩
  | .local _ .vmem, ⟨3, _⟩ => ⟨S224x256, .bf16⟩
  | .local _ .vmem, ⟨4, _⟩ => ⟨S224x256, .bf16⟩
  | .local _ .vmem, ⟨5, _⟩ => ⟨S224x256, .i32⟩
  | .local _ .vmem, ⟨6, _⟩ => ⟨S224x256, .i32⟩
  | .local _ .vmem, ⟨7, _⟩ => ⟨S224x64, .bf16⟩
  | .local _ .vmem, ⟨8, _⟩ => ⟨S64x256, .bf16⟩
  | .local _ .vmem, ⟨9, _⟩ => ⟨S64x256, .bf16⟩
  | .local _ .vmem, ⟨10, _⟩ => ⟨S1536x256, .bf16⟩
  | .local _ .vmem, ⟨11, _⟩ => ⟨S1536x256, .bf16⟩
  | .local _ .vmem, ⟨12, _⟩ => ⟨S1536x64, .bf16⟩
  | .local _ .vmem, ⟨13, _⟩ => ⟨S7168x256, .bf16⟩
  | _, _ => ⟨S6x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S896x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S224x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6x256x7168 : Shape := ⟨3, ![6, 256, 7168]⟩
abbrev S896x4608 : Shape := ⟨2, ![896, 4608]⟩
abbrev S224x4608 : Shape := ⟨2, ![224, 4608]⟩
abbrev S224x576 : Shape := ⟨2, ![224, 576]⟩
abbrev S224x64 : Shape := ⟨2, ![224, 64]⟩
abbrev S64x4608 : Shape := ⟨2, ![64, 4608]⟩
abbrev S8 : Shape := ⟨1, ![8]⟩
abbrev S_ : Shape := ⟨0, ![]⟩
abbrev S224x576x1 : Shape := ⟨3, ![224, 576, 1]⟩
abbrev S1x1x8 : Shape := ⟨3, ![1, 1, 8]⟩
abbrev S224x576x8 : Shape := ⟨3, ![224, 576, 8]⟩
abbrev S896x1x4608 : Shape := ⟨3, ![896, 1, 4608]⟩
abbrev S1x8x1 : Shape := ⟨3, ![1, 8, 1]⟩
abbrev S896x8x4608 : Shape := ⟨3, ![896, 8, 4608]⟩
abbrev S224x32x4608 : Shape := ⟨3, ![224, 32, 4608]⟩
abbrev S224x1x4608 : Shape := ⟨3, ![224, 1, 4608]⟩
abbrev S7168x4608 : Shape := ⟨2, ![7168, 4608]⟩
abbrev S6x256x4608 : Shape := ⟨3, ![6, 256, 4608]⟩
abbrev S6x256x224x32 : Shape := ⟨4, ![6, 256, 224, 32]⟩
abbrev S6x256x224 : Shape := ⟨3, ![6, 256, 224]⟩
abbrev S6x256x64 : Shape := ⟨3, ![6, 256, 64]⟩

abbrev nBuf : Space → Nat
  | .hbm => 54
  | .vmem => 0
  | .smem => 0
  | _ => 0

abbrev bufTy : (tb : Table) → Fin (tcTables nBuf tb) → BufTy
  | .hbm, ⟨0, _⟩ => ⟨S6x256x7168, .bf16⟩
  | .hbm, ⟨1, _⟩ => ⟨S896x4608, .i32⟩
  | .hbm, ⟨2, _⟩ => ⟨S224x4608, .bf16⟩
  | .hbm, ⟨3, _⟩ => ⟨S224x576, .i32⟩
  | .hbm, ⟨4, _⟩ => ⟨S224x64, .bf16⟩
  | .hbm, ⟨5, _⟩ => ⟨S64x4608, .bf16⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S224x576x1, .i32⟩
  | .hbm, ⟨11, _⟩ => ⟨S1x1x8, .i32⟩
  | .hbm, ⟨12, _⟩ => ⟨S224x576x8, .i32⟩
  | .hbm, ⟨13, _⟩ => ⟨S224x576x8, .i32⟩
  | .hbm, ⟨14, _⟩ => ⟨S224x576x8, .i32⟩
  | .hbm, ⟨15, _⟩ => ⟨S_, .i32⟩
  | .hbm, ⟨16, _⟩ => ⟨S224x576x8, .i32⟩
  | .hbm, ⟨17, _⟩ => ⟨S224x576x8, .i32⟩
  | .hbm, ⟨18, _⟩ => ⟨S224x4608, .i32⟩
  | .hbm, ⟨19, _⟩ => ⟨S224x4608, .bf16⟩
  | .hbm, ⟨20, _⟩ => ⟨S896x1x4608, .i32⟩
  | .hbm, ⟨21, _⟩ => ⟨S1x8x1, .i32⟩
  | .hbm, ⟨22, _⟩ => ⟨S896x8x4608, .i32⟩
  | .hbm, ⟨23, _⟩ => ⟨S896x8x4608, .i32⟩
  | .hbm, ⟨24, _⟩ => ⟨S896x8x4608, .i32⟩
  | .hbm, ⟨25, _⟩ => ⟨S_, .i32⟩
  | .hbm, ⟨26, _⟩ => ⟨S896x8x4608, .i32⟩
  | .hbm, ⟨27, _⟩ => ⟨S896x8x4608, .i32⟩
  | .hbm, ⟨28, _⟩ => ⟨S896x8x4608, .bf16⟩
  | .hbm, ⟨29, _⟩ => ⟨S224x32x4608, .bf16⟩
  | .hbm, ⟨30, _⟩ => ⟨S224x1x4608, .bf16⟩
  | .hbm, ⟨31, _⟩ => ⟨S224x32x4608, .bf16⟩
  | .hbm, ⟨32, _⟩ => ⟨S224x32x4608, .bf16⟩
  | .hbm, ⟨33, _⟩ => ⟨S224x1x4608, .bf16⟩
  | .hbm, ⟨34, _⟩ => ⟨S224x32x4608, .bf16⟩
  | .hbm, ⟨35, _⟩ => ⟨S224x32x4608, .bf16⟩
  | .hbm, ⟨36, _⟩ => ⟨S7168x4608, .bf16⟩
  | .hbm, ⟨37, _⟩ => ⟨S6x256x4608, .f32⟩
  | .hbm, ⟨38, _⟩ => ⟨S6x256x7168, .f32⟩
  | .hbm, ⟨39, _⟩ => ⟨S6x256x224x32, .f32⟩
  | .hbm, ⟨40, _⟩ => ⟨S_, .f32⟩
  | .hbm, ⟨41, _⟩ => ⟨S6x256x224, .f32⟩
  | .hbm, ⟨42, _⟩ => ⟨S_, .f32⟩
  | .hbm, ⟨43, _⟩ => ⟨S6x256x224, .f32⟩
  | .hbm, ⟨44, _⟩ => ⟨S6x256x224, .f32⟩
  | .hbm, ⟨45, _⟩ => ⟨S6x256x224, .bf16⟩
  | .hbm, ⟨46, _⟩ => ⟨S6x256x64, .f32⟩
  | .hbm, ⟨47, _⟩ => ⟨S_, .f32⟩
  | .hbm, ⟨48, _⟩ => ⟨S6x256x64, .f32⟩
  | .hbm, ⟨49, _⟩ => ⟨S6x256x64, .f32⟩
  | .hbm, ⟨50, _⟩ => ⟨S6x256x64, .bf16⟩
  | .hbm, ⟨51, _⟩ => ⟨S6x256x4608, .f32⟩
  | .hbm, ⟨52, _⟩ => ⟨S6x256x4608, .f32⟩
  | .hbm, ⟨53, _⟩ => ⟨S6x256x4608, .bf16⟩
  | _, _ => ⟨S6x256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Proof.Spec.lean ====
/- What the layer computes, in extended reals, at one token row and one output channel.

   The three pieces are the weight unpacked from its 4-bit code, the activation averaged over a group of
   32 input channels and sent through the adapter, and the output as the sum of the two products. Both
   programs are shown to compute `output` (`Reference.lean`, `Result.lean`). The arrays are plain functions
   of their coordinates here, so that neither program's shapes appear. -/
module

public import Idealize.ShloMosaic.Lib.Pipeline.ValueKit
public import Idealize.ShloMosaic.Lib.Pointwise
public import Idealize.ShloMosaic.Lib.KernelVsHost

@[expose] public section

noncomputable section

namespace Cert.Spec

open Idealize.ShloMosaic Idealize.ShloMosaic.TcCoe Idealize.SL.Sem

/-- The `k`-th 4-bit field of a packed word: shifted right by `4 * k` and masked to its low four bits. -/
def nibble (w : BitVec 32) (k : ℕ) : BitVec 32 :=
  IntOp.andi (IntOp.shrsi ArithUnit.vector w (IntOp.muli (BitVec.ofNat 32 k) 4#32)) 15#32

/-- A word read as a signed integer, as an extended real. -/
def ofWord (w : BitVec 32) : EReal := FloatOps.sitofp (F := Ideal) FTy.f32 w

/-- The dequantised weight at input channel `p` and output channel `n`: its code minus the zero point of its
    group of 32 input channels, times the group's scale. Eight codes are packed per word along the input
    channels, eight zero points per word along the output channels. -/
def weight (codes : Fin 896 → Fin 4608 → BitVec 32) (zeros : Fin 224 → Fin 576 → BitVec 32)
    (scales : Fin 224 → Fin 4608 → EReal) (p : Fin 7168) (n : Fin 4608) : EReal :=
  (ofWord (nibble (codes ⟨p / 8, by omega⟩ n) (p % 8))
    - ofWord (nibble (zeros ⟨p / 32, by omega⟩ ⟨n / 8, by omega⟩) (n % 8)))
  * scales ⟨p / 32, by omega⟩ n

/-- The mean of group `g` of a row of activations: the sum of its 32 entries times the constant 1/32. -/
def groupMean (x : Fin 7168 → EReal) (g : Fin 224) : EReal :=
  (∑ j : Fin 32, x ⟨g * 32 + j, by omega⟩) * Ideal.ofBits FTy.f32 0x3D000000#32

/-- The adapter's first half at rank `l`: the group means times the matrix `A`, times the constant 1/4. -/
def adapter (x : Fin 7168 → EReal) (A : Fin 224 → Fin 64 → EReal) (l : Fin 64) : EReal :=
  (∑ g, groupMean x g * A g l) * Ideal.ofBits FTy.f32 0x3E800000#32

/-- The layer's output at output channel `n` for a row `x` of activations: the row times the dequantised weight,
    plus the adapter. -/
def output (x : Fin 7168 → EReal) (codes : Fin 896 → Fin 4608 → BitVec 32)
    (scales : Fin 224 → Fin 4608 → EReal) (zeros : Fin 224 → Fin 576 → BitVec 32)
    (A : Fin 224 → Fin 64 → EReal) (B : Fin 64 → Fin 4608 → EReal) (n : Fin 4608) : EReal :=
  (∑ p, x p * weight codes zeros scales p n) + ∑ l, adapter x A l * B l n

/-- The host's shift gives the same field as the kernel's. -/
theorem nibble_host (w : BitVec 32) (k : ℕ) :
    IntOp.andi (IntOp.shrsi ArithUnit.host w (IntOp.muli (BitVec.ofNat 32 k) 4#32)) 15#32 = nibble w k := by
  rw [shrsi_unit .host .vector]; rfl

/-- Input channel `p` sits in packed row `p / 8`, found through its group of 32. -/
theorem row_eq (p : ℕ) : p / 32 * 4 + p % 32 / 8 = p / 8 := by omega

/-- Input channel `p`'s place in its packed word, found through its group of 32. -/
theorem lane_eq (p : ℕ) : p % 32 % 8 = p % 8 := by omega

end Cert.Spec

end
-- ==== Proof.Pool.lean ====
/- The kernel averages groups of 32 channels by multiplying with a matrix that holds 1/32 where row `k` belongs
   to group `g` (`k / 32 = g`, computed on words) and zero elsewhere. This module shows the product is the group
   mean, over all extended reals. -/
module

public import proofs.«01_k».proof.Proof.Spec
public import Idealize.ShloMosaic.Lib.WordCmp

@[expose] public section

set_option maxRecDepth 16384

noncomputable section

namespace Cert.Spec

open Idealize.ShloMosaic Idealize.ShloMosaic.TcCoe Idealize.SL.Sem

/-- The bit pattern `0x3D000000` denotes the real 1/32. -/
theorem ofBits_thirtySecond : Ideal.ofBits FTy.f32 0x3D000000#32 = ((1 / 32 : ℝ) : EReal) := by
  simp [Ideal.ofBits, Ideal.ieee, -EReal.coe_mul]
  norm_num

/-- A sum of extended reals times a nonnegative real is the sum of the products: no infinity has to be excluded. -/
theorem sum_mul_coe {ι : Type} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- The floor quotient by 32 as the kernel computes it on a word: the truncated quotient, less one when the signs
    differ and the remainder is not zero. -/
def floorDiv32 (k : BitVec 32) : BitVec 32 :=
  Scalar.select
    (IntOp.andi
      (IntOp.cmpi CmpIPredicate.ne
        (IntOp.subi (BitVec.setWidth 32 (IntOp.cmpi CmpIPredicate.sgt k 0#32))
          (BitVec.setWidth 32 (IntOp.cmpi CmpIPredicate.slt k 0#32)))
        (Scalar.subi (Scalar.extui (Scalar.cmpi CmpIPredicate.sgt 32#32 0#32))
          (Scalar.extui (Scalar.cmpi CmpIPredicate.slt 32#32 0#32))))
      (IntOp.cmpi CmpIPredicate.ne (IntOp.remsi ArithUnit.vector k 32#32) 0#32))
    (IntOp.subi (IntOp.divsi ArithUnit.vector k 32#32) 1#32)
    (IntOp.divsi ArithUnit.vector k 32#32)

/-- On the channel numbers the floor quotient is the natural one (checked at each of them). -/
theorem floorDiv32_ofNat : ∀ k : Fin 7168, floorDiv32 (BitVec.ofNat 32 k) = BitVec.ofNat 32 (k / 32) := by
  decide +kernel

/-- An entry of the averaging matrix against an activation: kept when the channel lies in the group, else zero. -/
theorem select_group {α : Type} (k : Fin 7168) (g : Fin 224) (a b : α) :
    Scalar.select (IntOp.cmpi CmpIPredicate.eq (floorDiv32 (BitVec.ofNat 32 k)) (BitVec.ofNat 32 g)) a b
      = if (k : ℕ) / 32 = g then a else b := by
  rw [floorDiv32_ofNat k]
  have hk := k.isLt
  have hg := g.isLt
  simp (disch := word_cmp_side) only [hlo_ix]

/-- THE POOLING PRODUCT. A row of activations times the averaging matrix is, at group `g`, the group's mean. -/
theorem pool_eq (x : Fin 7168 → EReal) (g : Fin 224) :
    (∑ k : Fin 7168, Scalar.select (IntOp.cmpi CmpIPredicate.eq (floorDiv32 (BitVec.ofNat 32 k)) (BitVec.ofNat 32 g))
        (x k * Ideal.ofBits FTy.f32 0x3D000000#32) 0) = groupMean x g := by
  unfold groupMean
  rw [ofBits_thirtySecond]
  simp only [select_group]
  rw [Fin.sum_univ_tiles 224 32 rfl, Finset.sum_eq_single g]
  · rw [← sum_mul_coe _ _ (by norm_num)]
    refine Finset.sum_congr rfl fun j _ => if_pos ?_
    show ((g : ℕ) * 32 + j) / 32 = g
    omega
  · intro b _ hb
    refine Finset.sum_eq_zero fun j _ => if_neg fun h => hb (Fin.ext ?_)
    have h' : ((b : ℕ) * 32 + j) / 32 = g := h
    omega
  · intro h; exact absurd (Finset.mem_univ _) h

end Cert.Spec

end
-- ==== Proof.Dequant.lean ====
/- One dequantised block of 64 input channels, as the kernel computes it: from 8 rows of packed codes, 2 rows of
   zero points and 2 rows of scales. The kernel writes out 112 such blocks, cut at different places; each is
   `k0_pay5` of its rows, so what `k0_pay5` holds at an index is proved once. -/
module

public import proofs.«01_k».proof.Proof.Gen.KernelIdeal.Skeleton
public import proofs.«01_k».proof.Proof.Pool

@[expose] public section

set_option maxRecDepth 16384

noncomputable section

namespace Cert.KernelIdeal.Own

open Idealize.ShloMosaic Idealize.ShloMosaic.TcCoe Idealize.SL.Sem
open Cert.KernelIdeal.Gen

/-- A dequantised block at row `r` and column `n`: the code of row `r` minus the zero point of its group, times
    the group's scale. -/
theorem dequant_at (w : Vec Ideal S8x256 .i32) (z : Vec Ideal S2x256 .i32) (s : Vec Ideal S2x256 .bf16)
    (r : Fin 64) (n : Fin 256) :
    k0_pay5 w z s (ix2 r n)
      = (Spec.ofWord (Spec.nibble (w (ix2 ⟨r / 8, by omega⟩ n)) (r % 8))
          - Spec.ofWord (z (ix2 ⟨r / 32, by omega⟩ n))) * s (ix2 ⟨r / 32, by omega⟩ n) := by
  pointwise [k0_pay5]
  simp only [Spec.row_eq, Spec.lane_eq]
  rfl

/-- The adapter's first half, as the kernel computes it, at row `r` and rank `l`. -/
theorem adapter_at (x : Vec Ideal S1536x7168 .bf16) (a : Vec Ideal S224x64 .bf16) (r : Fin 1536) (l : Fin 64) :
    k0_pay4 (k0_pay3 x a) (ix2 r l) = Spec.adapter (fun k => x (ix2 r k)) (fun g l => a (ix2 g l)) l := by
  pointwise [k0_pay4, k0_pay3]
  unfold Spec.adapter
  simp only [← Spec.pool_eq]
  rfl

/-- The output block from the whole weight block `w`: the product with `w` plus the product of the adapter's
    halves. -/
theorem output_at (x : Vec Ideal S1536x7168 .bf16) (w : Vec Ideal S7168x256 .bf16) (u : Vec Ideal S1536x64 .bf16)
    (b : Vec Ideal S64x256 .bf16) (r : Fin 1536) (n : Fin 256) :
    k0_pay2 x w u b (ix2 r n)
      = (∑ p : Fin 7168, x (ix2 r p) * w (ix2 p n)) + ∑ l : Fin 64, u (ix2 r l) * b (ix2 l n) := by
  pointwise [k0_pay2]

end Cert.KernelIdeal.Own

end
-- ==== Proof.WeightBlock.lean ====
/- The weight scratch: 7168 x 256 dequantised weights, filled by 112 stores of 64 rows each. The stores are given
   here as ONE family over the block number, and what the scratch holds after them is read at an index. -/
module

public import proofs.«01_k».proof.Proof.Dequant

@[expose] public section

set_option maxRecDepth 16384

noncomputable section

namespace Cert.KernelIdeal.Own

open Idealize.ShloMosaic Idealize.ShloMosaic.TcCoe Idealize.SL.Sem
open Cert.KernelIdeal.Gen

/-- The rows a store into the weight scratch takes, `64 k … 64 k + 63`, lie in the scratch. -/
theorem store_inb (k : Fin 112) :
    ∀ a, (![64 * (k : ℕ), 0] : Fin 2 → ℕ) a + S64x256.size a ≤ S7168x256.size a :=
  Fin.forall_fin_two.mpr ⟨show 64 * (k : ℕ) + 64 ≤ 7168 by omega, show 0 + 256 ≤ 256 by omega⟩

/-- The rows of packed codes a store reads, `8 k … 8 k + 7`, lie in the block of codes. -/
theorem codes_inb (k : Fin 112) :
    ∀ a, (![8 * (k : ℕ), 0] : Fin 2 → ℕ) a + S8x256.size a ≤ S896x256.size a :=
  Fin.forall_fin_two.mpr ⟨show 8 * (k : ℕ) + 8 ≤ 896 by omega, show 0 + 256 ≤ 256 by omega⟩

/-- The rows of scales and of zero points a store reads, `2 k` and `2 k + 1`, lie in their blocks. -/
theorem groups_inb (k : Fin 112) :
    ∀ a, (![2 * (k : ℕ), 0] : Fin 2 → ℕ) a + S2x256.size a ≤ S224x256.size a :=
  Fin.forall_fin_two.mpr ⟨show 2 * (k : ℕ) + 2 ≤ 224 by omega, show 0 + 256 ≤ 256 by omega⟩

/-- The values of the `k`-th store into the weight scratch, dequantised from rows `8 k …` of the packed codes `w` and
    rows `2 k …` of the scales `s` and of the zero points `z`. -/
def storeVal (w : Vec Ideal S896x256 .i32) (s : Vec Ideal S224x256 .bf16) (z : Vec Ideal S224x256 .i32) (k : Fin 112) :
    FVec Ideal S64x256 .bf16 :=
  k0_pay5 (View.ld w (Rect.unit (s := S896x256) ![8 * k, 0] S8x256.size (codes_inb k)))
    (View.ld z (Rect.unit (s := S224x256) ![2 * k, 0] S2x256.size (groups_inb k)))
    (View.ld s (Rect.unit (s := S224x256) ![2 * k, 0] S2x256.size (groups_inb k)))

/-- The `k`-th store into the weight scratch: these values at rows `64 k …`. -/
def store (w : Vec Ideal S896x256 .i32) (s : Vec Ideal S224x256 .bf16) (z : Vec Ideal S224x256 .i32) (k : Fin 112) :
    View.Piece (Elt Ideal) S7168x256 .bf16 :=
  ⟨Rect.unit (s := S7168x256) ![64 * k, 0] S64x256.size (store_inb k), storeVal w s z k⟩

/-- All the stores into the weight scratch, the last one first. -/
def stores (w : Vec Ideal S896x256 .i32) (s : Vec Ideal S224x256 .bf16) (z : Vec Ideal S224x256 .i32) :
    List (View.Piece (Elt Ideal) S7168x256 .bf16) :=
  List.ofFn fun k : Fin 112 => store w s z k.rev

/-- The block of weights at row `p` and column `n`: the code minus the zero point of the group, times its scale. -/
def weightAt (w : Vec Ideal S896x256 .i32) (s : Vec Ideal S224x256 .bf16) (z : Vec Ideal S224x256 .i32)
    (p : Fin 7168) (n : Fin 256) : EReal :=
  (Spec.ofWord (Spec.nibble (w (ix2 ⟨p / 8, by omega⟩ n)) (p % 8))
    - Spec.ofWord (z (ix2 ⟨p / 32, by omega⟩ n))) * s (ix2 ⟨p / 32, by omega⟩ n)

/-- A load of whole-width rows starting at row `o`, read at row `r` and column `n`: the array at row `o + r`. -/
theorem rows_at {e : EltTy} {R T : ℕ} (X : Vec Ideal ⟨2, ![R, 256]⟩ e) (o : ℕ)
    (inb : ∀ a, (![o, 0] : Fin 2 → ℕ) a + (![T, 256] : Fin 2 → ℕ) a ≤ (![R, 256] : Fin 2 → ℕ) a)
    (r : Fin T) (n : Fin 256) (q : Fin R) (hq : (q : ℕ) = o + r) :
    View.ld X (Rect.unit (s := ⟨2, ![R, 256]⟩) ![o, 0] ![T, 256] inb) (ix2 r n) = X (ix2 q n) :=
  View.ld_unit_apply_of X _ _ inb (ix2 r n) (ix2 q n) (Fin.forall_fin_two.mpr ⟨hq, (Nat.zero_add _).symm⟩)

/-- What one store leaves at its row `r`: the weight of row `64 k + r`. -/
theorem store_at (w : Vec Ideal S896x256 .i32) (s : Vec Ideal S224x256 .bf16) (z : Vec Ideal S224x256 .i32)
    (k : Fin 112) (r : Fin 64) (n : Fin 256) (p : Fin 7168) (hp : (p : ℕ) = 64 * k + r) :
    storeVal w s z k (ix2 r n) = weightAt w s z p n := by
  refine (dequant_at _ _ _ r n).trans ?_
  unfold weightAt
  have h8 : (r : ℕ) % 8 = p % 8 := by omega
  rw [h8]
  refine congrArg₂ (· * ·) (congrArg₂ (· - ·) (congrArg (fun v => Spec.ofWord (Spec.nibble v (p % 8))) ?_)
    (congrArg Spec.ofWord ?_)) ?_
  · exact rows_at w _ _ _ n _ (show (p : ℕ) / 8 = 8 * k + r / 8 by omega)
  · exact rows_at z _ _ _ n _ (show (p : ℕ) / 32 = 2 * k + r / 32 by omega)
  · exact rows_at s _ _ _ n _ (show (p : ℕ) / 32 = 2 * k + r / 32 by omega)

/-- THE WEIGHT SCRATCH after all its stores, at row `p` and column `n`. -/
theorem stores_at (w : Vec Ideal S896x256 .i32) (s : Vec Ideal S224x256 .bf16) (z : Vec Ideal S224x256 .i32)
    (p : Fin 7168) (n : Fin 256) : View.canon (stores w s z) (ix2 p n) = weightAt w s z p n := by
  refine View.canon_ofFn_unit_eq_of_forall (Val := Elt Ideal) (S := S7168x256) (e := .bf16) (fun k : Fin 112 => ![64 * (k.rev : ℕ), 0]) S64x256.size
    (fun k => store_inb k.rev) (fun k => storeVal w s z k.rev) _ _ ?_ ?_
  · refine ⟨(⟨p / 64, by omega⟩ : Fin 112).rev, ?_⟩
    rw [Fin.rev_rev]
    refine Fin.forall_fin_two.mpr ⟨?_, ?_⟩
    · show 64 * ((p : ℕ) / 64) ≤ p ∧ (p : ℕ) < 64 * (p / 64) + 64
      omega
    · show 0 ≤ (n : ℕ) ∧ (n : ℕ) < 0 + 256
      omega
  · intro k x hx
    idx_vars x
    have h0 : (p : ℕ) = 64 * k.rev + x0 := hx 0
    have h1 : (n : ℕ) = 0 + x1 := hx 1
    obtain rfl : n = x1 := Fin.ext (by omega)
    exact store_at w s z k.rev x0 n p h0

end Cert.KernelIdeal.Own

end
-- ==== Proof.Body.lean ====
/- What one run of the kernel's body leaves, in closed form: the output block from the input blocks, the weight
   scratch as the family of its stores, and the adapter scratch (computed at the first grid point, read at the
   others). -/
module

public import proofs.«01_k».proof.Proof.Gen.KernelIdeal.Frame
public import proofs.«01_k».proof.Proof.WeightBlock

@[expose] public section

set_option maxRecDepth 16384

noncomputable section

namespace Cert.KernelIdeal.Own

open Idealize.ShloMosaic Idealize.ShloMosaic.TcCoe Idealize.SL.Sem
open Cert.KernelIdeal.Gen

/-- The output block from the input blocks and the adapter's first half `u`: the activations times the weights the
    stores leave, plus `u` times the adapter's second matrix. -/
def block (x : Vec Ideal S1536x7168 .bf16) (w : Vec Ideal S896x256 .i32) (s : Vec Ideal S224x256 .bf16)
    (z : Vec Ideal S224x256 .i32) (u : Vec Ideal S1536x64 .bf16) (b : Vec Ideal S64x256 .bf16) : Vec Ideal S1536x256 .bf16 :=
  k0_pay2 x (View.canon (stores w s z)) u b

/-- At a grid point that is not the first, the body leaves `block` in the output, with the adapter's first half
    `xs0` as the point before left it. -/
theorem out_later (c : Dev nD) (i : grid0.Coords) (arg1 : Memref sig .tc .vmem S1536x7168 .bf16) (harg1 : arg1.IsWhole) (arg2 : Memref sig .tc .vmem S896x256 .i32) (harg2 : arg2.IsWhole)
    (arg3 : Memref sig .tc .vmem S224x256 .bf16) (harg3 : arg3.IsWhole) (arg4 : Memref sig .tc .vmem S224x256 .i32) (harg4 : arg4.IsWhole)
    (arg5 : Memref sig .tc .vmem S224x64 .bf16) (harg5 : arg5.IsWhole) (arg6 : Memref sig .tc .vmem S64x256 .bf16) (harg6 : arg6.IsWhole)
    (arg7 : Memref sig .tc .vmem S1536x256 .bf16) (harg7 : arg7.IsWhole) (arg8 : Memref sig .tc .vmem S1536x64 .bf16) (harg8 : arg8.IsWhole)
    (arg9 : Memref sig .tc .vmem S7168x256 .bf16) (harg9 : arg9.IsWhole) (hc0 : ¬cond0_0 i)
    (x0 : Vec Ideal S1536x7168 .bf16) (x1 : Vec Ideal S896x256 .i32) (x2 : Vec Ideal S224x256 .bf16) (x3 : Vec Ideal S224x256 .i32) (x4 : Vec Ideal S224x64 .bf16) (x5 : Vec Ideal S64x256 .bf16)
    (xs0 : Vec Ideal S1536x64 .bf16) :
    out0_B_6 c i arg1 harg1 arg2 harg2 arg3 harg3 arg4 harg4 arg5 harg5 arg6 harg6 arg7 harg7 arg8 harg8 arg9 harg9 hc0 x0 x1 x2 x3 x4 x5 xs0
      = block x0 x1 x2 x3 xs0 x5 := by
  unfold block
  frame_out
  rw [View.readCov_eq_canon']
  refine congrFun (congr (congrArg (k0_pay2 x0) ?_) rfl) x5
  show View.ld (View.canon (stores x1 x2 x3)) _ = _
  exact View.ld_unit_lit _ _ (by decide)

/-- At the first grid point the body leaves the adapter's first half in its scratch. -/
theorem scratch_first (c : Dev nD) (i : grid0.Coords) (arg1 : Memref sig .tc .vmem S1536x7168 .bf16) (harg1 : arg1.IsWhole) (arg2 : Memref sig .tc .vmem S896x256 .i32) (harg2 : arg2.IsWhole)
    (arg3 : Memref sig .tc .vmem S224x256 .bf16) (harg3 : arg3.IsWhole) (arg4 : Memref sig .tc .vmem S224x256 .i32) (harg4 : arg4.IsWhole)
    (arg5 : Memref sig .tc .vmem S224x64 .bf16) (harg5 : arg5.IsWhole) (arg6 : Memref sig .tc .vmem S64x256 .bf16) (harg6 : arg6.IsWhole)
    (arg7 : Memref sig .tc .vmem S1536x256 .bf16) (harg7 : arg7.IsWhole) (arg8 : Memref sig .tc .vmem S1536x64 .bf16) (harg8 : arg8.IsWhole)
    (arg9 : Memref sig .tc .vmem S7168x256 .bf16) (harg9 : arg9.IsWhole) (hc0 : cond0_0 i)
    (x0 : Vec Ideal S1536x7168 .bf16) (x1 : Vec Ideal S896x256 .i32) (x2 : Vec Ideal S224x256 .bf16) (x3 : Vec Ideal S224x256 .i32) (x4 : Vec Ideal S224x64 .bf16) (x5 : Vec Ideal S64x256 .bf16) :
    sout0_A_0 c i arg1 harg1 arg2 harg2 arg3 harg3 arg4 harg4 arg5 harg5 arg6 harg6 arg7 harg7 arg8 harg8 arg9 harg9 hc0 x0 x1 x2 x3 x4 x5 = k0_pay4 (k0_pay3 x0 x4) := by
  frame_out

/-- At the first grid point the body leaves `block` in the output, with the adapter's first half as just computed. -/
theorem out_first (c : Dev nD) (i : grid0.Coords) (arg1 : Memref sig .tc .vmem S1536x7168 .bf16) (harg1 : arg1.IsWhole) (arg2 : Memref sig .tc .vmem S896x256 .i32) (harg2 : arg2.IsWhole)
    (arg3 : Memref sig .tc .vmem S224x256 .bf16) (harg3 : arg3.IsWhole) (arg4 : Memref sig .tc .vmem S224x256 .i32) (harg4 : arg4.IsWhole)
    (arg5 : Memref sig .tc .vmem S224x64 .bf16) (harg5 : arg5.IsWhole) (arg6 : Memref sig .tc .vmem S64x256 .bf16) (harg6 : arg6.IsWhole)
    (arg7 : Memref sig .tc .vmem S1536x256 .bf16) (harg7 : arg7.IsWhole) (arg8 : Memref sig .tc .vmem S1536x64 .bf16) (harg8 : arg8.IsWhole)
    (arg9 : Memref sig .tc .vmem S7168x256 .bf16) (harg9 : arg9.IsWhole) (hc0 : cond0_0 i)
    (x0 : Vec Ideal S1536x7168 .bf16) (x1 : Vec Ideal S896x256 .i32) (x2 : Vec Ideal S224x256 .bf16) (x3 : Vec Ideal S224x256 .i32) (x4 : Vec Ideal S224x64 .bf16) (x5 : Vec Ideal S64x256 .bf16) :
    out0_A_6 c i arg1 harg1 arg2 harg2 arg3 harg3 arg4 harg4 arg5 harg5 arg6 harg6 arg7 harg7 arg8 harg8 arg9 harg9 hc0 x0 x1 x2 x3 x4 x5
      = block x0 x1 x2 x3 (k0_pay4 (k0_pay3 x0 x4)) x5 := by
  unfold block
  frame_out
  rw [View.readCov_eq_canon']
  refine congrFun (congr (congrArg (k0_pay2 x0) ?_) rfl) x5
  show View.ld (View.canon (stores x1 x2 x3)) _ = _
  exact View.ld_unit_lit _ _ (by decide)

end Cert.KernelIdeal.Own

end
-- ==== Proof.Operands.lean ====
/- The blocks the kernel's body reads, at an index, in the program's arguments: the host reshapes the activations to
   1536 rows and unpacks the zero points before the region; each grid point then takes its 256 columns. -/
module

public import proofs.«01_k».proof.Proof.Body

@[expose] public section

set_option maxRecDepth 16384

noncomputable section

namespace Cert.KernelIdeal.Own

open Idealize.ShloMosaic Idealize.ShloMosaic.TcCoe Idealize.SL.Sem
open Cert.KernelIdeal.Gen

variable (m : (ℓ : Loc nD τ sig) → Buf (Elt Ideal) ℓ) (c : Dev nD)

/-- Which block of its array each window takes at grid point `t`: the activations and `A` whole, the others column
    block `t`. -/
theorem idx : ∀ t : Fin cfg0.N, win0_0.index t = ![0, 0] ∧ win0_1.index t = ![0, t.val] ∧ win0_2.index t = ![0, t.val]
    ∧ win0_3.index t = ![0, t.val] ∧ win0_4.index t = ![0, 0] ∧ win0_5.index t = ![0, t.val] ∧ win0_6.index t = ![0, t.val]
    ∧ t.val < 18 :=
  (by decide +kernel : ∀ t : Fin grid0.N, _)

/-- Grid point `t`'s column `n`, in the whole width. -/
def col (t : Fin cfg0.N) (n : Fin 256) : Fin 4608 := ⟨t.val * 256 + n, by have := (idx t).2.2.2.2.2.2.2; omega⟩

/-- The activations at the region: the argument's rows, batch by batch. -/
theorem rows_read (r : Fin 1536) (k : Fin 7168) :
    V m c main_v11 (ix2 r k)
      = m ((c.tc : Thread nD τ).loc main_arg0) (ix3 ⟨r / 256, by omega⟩ ⟨r % 256, by omega⟩ k) := by
  show StableHlo.after hostOps0 (fun b => m (c, b)) (Proc.devRef .tc main_v11) (ix2 r k) = _
  after_results_simp
  pointwise

/-- The zero points at the region: unpacked along the columns. -/
theorem zeros_read (g : Fin 224) (n : Fin 4608) :
    V m c main_v10 (ix2 g n)
      = Spec.nibble (m ((c.tc : Thread nD τ).loc main_arg3) (ix2 g ⟨n / 8, by omega⟩)) (n % 8) := by
  show StableHlo.after hostOps0 (fun b => m (c, b)) (Proc.devRef .tc main_v10) (ix2 g n) = _
  after_results_simp
  pointwise
  exact Spec.nibble_host _ _

/-- The activations' block, the same at every grid point. -/
theorem x_block (t : Fin cfg0.N) (r : Fin 1536) (k : Fin 7168) :
    iblk m c 0 t (ix2 r k)
      = m ((c.tc : Thread nD τ).loc main_arg0) (ix3 ⟨r / 256, by omega⟩ ⟨r % 256, by omega⟩ k) := by
  rw [← rows_read m c]
  blk_ext [iblk, idx t]

/-- The block of packed codes: the point's columns. -/
theorem codes_block (t : Fin cfg0.N) (p : Fin 896) (n : Fin 256) :
    iblk m c 1 t (ix2 p n) = m ((c.tc : Thread nD τ).loc main_arg1) (ix2 p (col t n)) := by
  unfold col
  blk_ext [iblk, V, idx t]

/-- The block of scales: the point's columns. -/
theorem scales_block (t : Fin cfg0.N) (g : Fin 224) (n : Fin 256) :
    iblk m c 2 t (ix2 g n) = m ((c.tc : Thread nD τ).loc main_arg2) (ix2 g (col t n)) := by
  unfold col
  blk_ext [iblk, V, idx t]

/-- The block of zero points: the point's columns, unpacked. -/
theorem zeros_block (t : Fin cfg0.N) (g : Fin 224) (n : Fin 256) :
    iblk m c 3 t (ix2 g n)
      = Spec.nibble (m ((c.tc : Thread nD τ).loc main_arg3) (ix2 g ⟨col t n / 8, by omega⟩)) (col t n % 8) := by
  rw [← zeros_read m c]
  unfold col
  blk_ext [iblk, idx t]

/-- The block of the adapter's first matrix, whole. -/
theorem A_block (t : Fin cfg0.N) (g : Fin 224) (l : Fin 64) :
    iblk m c 4 t (ix2 g l) = m ((c.tc : Thread nD τ).loc main_arg4) (ix2 g l) := by
  blk_ext [iblk, V, idx t]

/-- The block of the adapter's second matrix: the point's columns. -/
theorem B_block (t : Fin cfg0.N) (l : Fin 64) (n : Fin 256) :
    iblk m c 5 t (ix2 l n) = m ((c.tc : Thread nD τ).loc main_arg5) (ix2 l (col t n)) := by
  unfold col
  blk_ext [iblk, V, idx t]

end Cert.KernelIdeal.Own

end
-- ==== Proof.Result.lean ====
/- The kernel's result, read at one index: it is `Spec.output` of the program's arguments. -/
module

public import proofs.«01_k».proof.Proof.Operands

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal.Gen

variable (m : (ℓ : Loc nD τ sig) → Buf (Elt Ideal) ℓ) (c : Dev nD)

/-- Row `r` of the activations, the batches laid end to end. -/
def row (r : Fin 1536) (k : Fin 7168) : EReal :=
  m ((c.tc : Thread nD τ).loc main_arg0) (ix3 ⟨r / 256, by omega⟩ ⟨r % 256, by omega⟩ k)

/-- The adapter's first matrix. -/
def matA (g : Fin 224) (l : Fin 64) : EReal := m ((c.tc : Thread nD τ).loc main_arg4) (ix2 g l)

/-- The layer's output at row `r` and channel `n`, in the program's arguments. -/
def out (r : Fin 1536) (n : Fin 4608) : EReal :=
  Spec.output (row m c r) (fun p n => m ((c.tc : Thread nD τ).loc main_arg1) (ix2 p n))
    (fun g n => m ((c.tc : Thread nD τ).loc main_arg2) (ix2 g n))
    (fun g n => m ((c.tc : Thread nD τ).loc main_arg3) (ix2 g n)) (matA m c)
    (fun l n => m ((c.tc : Thread nD τ).loc main_arg5) (ix2 l n)) n

/-- The output block of grid point `t`, once the adapter scratch `u` holds the adapter's first half: the layer's
    output at the point's columns. -/
theorem block_at (t : Fin cfg0.N) (u : Vec Ideal S1536x64 .bf16)
    (hu : ∀ r l, u (ix2 r l) = Spec.adapter (row m c r) (matA m c) l) (r : Fin 1536) (n : Fin 256) :
    block (iblk m c 0 t) (iblk m c 1 t) (iblk m c 2 t) (iblk m c 3 t) u (iblk m c 5 t) (ix2 r n)
      = out m c r (col t n) := by
  unfold block
  rw [output_at]
  unfold out Spec.output
  refine congrArg₂ (· + ·) (Finset.sum_congr rfl fun p _ => congrArg₂ (· * ·) (x_block m c t r p) ?_)
    (Finset.sum_congr rfl fun l _ => congrArg₂ (· * ·) (hu r l) (B_block m c t l n))
  rw [stores_at]
  unfold weightAt Spec.weight
  rw [codes_block, zeros_block, scales_block]

/-- What the first grid point computes into the adapter scratch: the adapter's first half. -/
theorem first_at (t : Fin cfg0.N) (r : Fin 1536) (l : Fin 64) :
    k0_pay4 (k0_pay3 (iblk m c 0 t) (iblk m c 4 t)) (ix2 r l) = Spec.adapter (row m c r) (matA m c) l := by
  rw [adapter_at]
  exact congrArg₂ (fun x A => Spec.adapter x A l) (funext fun k => x_block m c t r k)
    (funext fun g => funext fun l => A_block m c t g l)

/-- The adapter scratch holds the adapter's first half after every grid point: computed at the first, kept after. -/
theorem scratch_at (n : ℕ) (h : n < cfg0.N) (r : Fin 1536) (l : Fin 64) :
    (outsAt0 m c n h).2 (ix2 r l) = Spec.adapter (row m c r) (matA m c) l := by
  induction n with
  | zero =>
    rw [outsAt0_A m c ⟨0, h⟩ rfl]
    dsimp only
    rw [scratch_first]
    exact first_at m c ⟨0, h⟩ r l
  | succ n ih =>
    have hn : ¬ (n + 1) % 18 = 0 := by have := (idx ⟨n + 1, h⟩).2.2.2.2.2.2.2; dsimp only at this; omega
    rw [outsAt0_B m c ⟨n + 1, h⟩ hn]
    exact ih _

/-- What the body leaves in the output block at grid point `t`: the layer's output at the point's columns. -/
theorem point_at (t : Fin cfg0.N) (r : Fin 1536) (n : Fin 256) :
    (outsAt0 m c t.val t.isLt).1 (ix2 r n) = out m c r (col t n) := by
  by_cases h : t.val % 18 = 0
  · rw [outsAt0_A m c t h]
    dsimp only
    rw [out_first]
    exact block_at m c t _ (first_at m c t) r n
  · rw [outsAt0_B m c t h]
    dsimp only
    rw [out_later]
    exact block_at m c t _ (scratch_at m c _ _) r n

/-- The region's result array. -/
def result : Vec Ideal S1536x4608 .bf16 := fun j => out m c (j 0) (j 1)

/-- THE REGION'S RESULT: the grid points' blocks cover the array, so it holds the layer's output everywhere. -/
theorem region_eq : (dats m 0 c).arrAt 6 cfg0.N = result m c := by
  refine (dats m 0 c).arrAt_eq_of_covers 6 _ (by decide +kernel) fun t _ y => ?_
  blk_simp
  rw [after0_6]
  idx_vars y
  refine (point_at m c t y0 y1).trans ?_
  show result m c (ix2 y0 (col t y1)) = result m c _
  unfold col
  blk_ext [idx t]

/-- THE PROGRAM'S RESULT: the region's, reshaped to batches by the host. -/
theorem result_eq :
    Pipeline.afterTail₀ cfgs (dats m) 0 (V0 m) [hostOps1] c main_v13
      = shapeCast S6x256x4608 (result m c) shapeCasts_S1536x4608_S6x256x4608 := by
  show StableHlo.after hostOps1 (Pipeline.withArrays spec0 c (V0 m c) fun w => (dats m 0 c).arrAt w cfg0.N)
    (Proc.devRef .tc main_v13) = _
  after_results_simp
  rw [← region_eq m c]
  exact congrArg (fun v => shapeCast S6x256x4608 v shapeCasts_S1536x4608_S6x256x4608)
    (Pipeline.withArrays_arr spec0 (by decide +kernel) c (V0 m c) _ 6)

/-- The program's result at batch `i`, token `t` and channel `n`. -/
theorem result_at (i : Fin 6) (t : Fin 256) (n : Fin 4608) :
    shapeCast S6x256x4608 (result m c) shapeCasts_S1536x4608_S6x256x4608 (ix3 i t n)
      = out m c ⟨i * 256 + t, by omega⟩ n := by
  pointwise
  rfl

end Cert.KernelIdeal.Own

end
-- ==== Proof.Reference.lean ====
/- The reference's result, read at one index: it is `Spec.output`. -/
module

public import proofs.«01_k».proof.Proof.Gen.ReferenceIdeal.Run
public import proofs.«01_k».proof.Proof.Spec

@[expose] public section

set_option maxRecDepth 16384

noncomputable section

namespace Cert.ReferenceIdeal.Own

open Idealize.ShloMosaic Idealize.ShloMosaic.TcCoe Idealize.SL.Sem
open Cert.ReferenceIdeal Cert.ReferenceIdeal.Gen

/-- The reference's dequantised weights: codes and zero points unpacked, subtracted, scaled. -/
def weights (w : IVec S896x4608 32) (s : FVec Ideal S224x4608 .bf16) (z : IVec S224x576 32) : FVec Ideal S7168x4608 .bf16 :=
  shapeCast _ (mulf (subf (shapeCast _ (sitofp .bf16 (andi (Host.shrsi (broadcastInDim S896x8x4608 ![0, 1, 2] bcast_S896x1x4608_S896x8x4608_0_1_2 (broadcastInDim S896x1x4608 ![0, 2] bcast_S896x4608_S896x1x4608_0_2 w)) (broadcastInDim S896x8x4608 ![0, 1, 2] bcast_S1x8x1_S896x8x4608_0_1_2 (broadcastInDim S1x8x1 ![1] bcast_S8_S1x8x1_1 (muli (iotaInDim S8 32 0) (broadcastInDim S8 ![] bcast_S_S8 (constantI S_ 32 4#32)))))) (broadcastInDim S896x8x4608 ![] bcast_S_S896x8x4608 (constantI S_ 32 15#32)))) shapeCasts_S896x8x4608_S224x32x4608) (broadcastInDim S224x32x4608 ![0, 1, 2] bcast_S224x1x4608_S224x32x4608_0_1_2 (broadcastInDim S224x1x4608 ![0, 2] bcast_S224x4608_S224x1x4608_0_2 (sitofp .bf16 (shapeCast _ (andi (Host.shrsi (broadcastInDim S224x576x8 ![0, 1, 2] bcast_S224x576x1_S224x576x8_0_1_2 (broadcastInDim S224x576x1 ![0, 1] bcast_S224x576_S224x576x1_0_1 z)) (broadcastInDim S224x576x8 ![0, 1, 2] bcast_S1x1x8_S224x576x8_0_1_2 (broadcastInDim S1x1x8 ![2] bcast_S8_S1x1x8_2 (muli (iotaInDim S8 32 0) (broadcastInDim S8 ![] bcast_S_S8 (constantI S_ 32 4#32)))))) (broadcastInDim S224x576x8 ![] bcast_S_S224x576x8 (constantI S_ 32 15#32))) shapeCasts_S224x576x8_S224x4608))))) (broadcastInDim S224x32x4608 ![0, 1, 2] bcast_S224x1x4608_S224x32x4608_0_1_2 (broadcastInDim S224x1x4608 ![0, 2] bcast_S224x4608_S224x1x4608_0_2 s))) shapeCasts_S224x32x4608_S7168x4608

/-- The reference's result as one term over its arguments. -/
def result (x : FVec Ideal S6x256x7168 .bf16) (w : IVec S896x4608 32) (s : FVec Ideal S224x4608 .bf16) (z : IVec S224x576 32)
    (a : FVec Ideal S224x64 .bf16) (b : FVec Ideal S64x4608 .bf16) : FVec Ideal S6x256x4608 .bf16 :=
  truncf .bf16 (addf (Host.dotGeneral dot_S6x256x7168_S7168x4608_S6x256x4608_2_0_01_1_n_n none x (weights w s z)) (Host.dotGeneral dot_S6x256x64_S64x4608_S6x256x4608_2_0_01_1_n_n none (truncf .bf16 (mulf (Host.dotGeneral dot_S6x256x224_S224x64_S6x256x64_2_0_01_1_n_n none (truncf .bf16 (mulf (Host.reduceAdd (shapeCast _ (extf .f32 x bitsLt_bf16_f32) shapeCasts_S6x256x7168_S6x256x224x32) (constant S_ .f32 0x00000000#32) reducesTo_S6x256x224x32_S6x256x224_d3 h_S_) (broadcastInDim S6x256x224 ![] bcast_S_S6x256x224 (constant S_ .f32 0x3D000000#32))) bitsLt_bf16_f32) a) (broadcastInDim S6x256x64 ![] bcast_S_S6x256x64 (constant S_ .f32 0x3E800000#32))) bitsLt_bf16_f32) b)) bitsLt_bf16_f32

/-- The reference's result at batch `i`, token `t` and channel `n` is the layer's output there. -/
theorem result_at (x : FVec Ideal S6x256x7168 .bf16) (w : IVec S896x4608 32) (s : FVec Ideal S224x4608 .bf16) (z : IVec S224x576 32)
    (a : FVec Ideal S224x64 .bf16) (b : FVec Ideal S64x4608 .bf16) (i : Fin 6) (t : Fin 256) (n : Fin 4608) :
    result x w s z a b (ix3 i t n)
      = Spec.output (fun k => x (ix3 i t k)) (fun p n => w (ix2 p n)) (fun g n => s (ix2 g n)) (fun g n => z (ix2 g n))
          (fun g l => a (ix2 g l)) (fun l n => b (ix2 l n)) n := by
  pointwise [result, weights]
  simp only [Spec.row_eq, Spec.lane_eq, Spec.nibble_host]
  rfl

end Cert.ReferenceIdeal.Own

end
-- ==== Proof.Run.lean ====
/- The kernel's run and the reference's, each with its result read at an index, and the two results equal. -/
module

public import proofs.«01_k».proof.Proof.Result
public import proofs.«01_k».proof.Proof.Reference
public import Idealize.ShloMosaic.Lib.Quiescent

@[expose] public section

set_option maxRecDepth 16384

noncomputable section

namespace Cert.KernelIdeal.Own

open Idealize.ShloMosaic Idealize.ShloMosaic.TcCoe Idealize.SL.Sem
open Cert.KernelIdeal.Gen

/-- What the program returns: the region's result, reshaped to batches. -/
def returned (m : (ℓ : Loc nD τ sig) → Buf (Elt Ideal) ℓ) (c : Dev nD) : Vec Ideal S6x256x4608 .bf16 :=
  shapeCast S6x256x4608 (result m c) shapeCasts_S1536x4608_S6x256x4608

/-- THE KERNEL'S RUN: it ends with `returned` in its result and its arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (θ_run_and (unchanged m ρ) (run_main m ρ)) fun r h c =>
    ⟨((h.2 c).2 main_v13 (Pipeline.mem_restRefs_of main_v13 (by decide) (by decide))).trans (result_eq m c), h.1 c⟩

/-- THE RESULTS AGREE: the reference's term over the kernel's arguments is what the kernel returns. -/
theorem reference_eq (m : (ℓ : Loc nD τ sig) → Buf (Elt Ideal) ℓ) (c : Dev nD) :
    Cert.ReferenceIdeal.Own.result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
      = returned m c := by
  funext j
  idx_vars j
  refine (Cert.ReferenceIdeal.Own.result_at _ _ _ _ _ _ j0 j1 j2).trans ((result_at m c j0 j1 j2).trans ?_).symm
  unfold out
  refine congrArg (fun x => Spec.output x _ _ _ _ _ j2) (funext fun k => ?_)
  have h0 : (⟨(j0.val * 256 + j1.val) / 256, by omega⟩ : Fin 6) = j0 := Fin.ext (by dsimp only; omega)
  have h1 : (⟨(j0.val * 256 + j1.val) % 256, by omega⟩ : Fin 256) = j1 := Fin.ext (by dsimp only; omega)
  unfold row
  rw [h0, h1]

end Cert.KernelIdeal.Own

namespace Cert.ReferenceIdeal.Own

open Idealize.ShloMosaic Idealize.ShloMosaic.TcCoe Idealize.SL.Sem

/-- THE REFERENCE'S FRAME: its arguments end unchanged; it declares no semaphore, so every counter is zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_mono (Cert.ReferenceIdeal.Value.run m ρ) fun r h => ⟨fun c => (h c).2, sem_eq_zero_of_no_sems rfl _⟩

end Cert.ReferenceIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import Idealize.ShloMosaic.Adequacy
public import Idealize.ShloMosaic.Init

@[expose] public section

noncomputable section

namespace Cert.Proof

open Idealize.ShloMosaic Idealize.SL.Sem Cert.Kernel

/-- The kernel, its ideal twin and the reference each run to the end and leave their arguments unchanged; no operation
    was rewritten; and over the extended reals the kernel returns what the reference returns. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Own.frame m ρ,
  trivial,
  by
    intro m g m' g' _ hagree
    refine ⟨Cert.KernelIdeal.Own.returned m, Cert.KernelIdeal.Own.run m g,
      θ_run_mono (Cert.ReferenceIdeal.Value.run m' g') fun r h c => ⟨(h c).1.trans ?_, (h c).2⟩⟩
    obtain ⟨h0, h1, h2, h3, h4, h5⟩ := hagree c
    rw [h0, h1, h2, h3, h4, h5]
    exact Cert.KernelIdeal.Own.reference_eq m c⟩

end Cert.Proof

end
